-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x200x128 : Shape := ⟨3, ![4096, 200, 128]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x200x128 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 200#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096x200x128 : Shape := ⟨3, ![4096, 200, 128]⟩
abbrev S4096 : Shape := ⟨1, ![4096]⟩
abbrev S819200x128 : Shape := ⟨2, ![819200, 128]⟩
abbrev S4096x128 : Shape := ⟨2, ![4096, 128]⟩
abbrev S128 : Shape := ⟨1, ![128]⟩
abbrev S128x128 : Shape := ⟨2, ![128, 128]⟩
abbrev S_ : Shape := ⟨0, ![]⟩
abbrev S16 : Shape := ⟨1, ![16]⟩
abbrev S4096x1x128 : Shape := ⟨3, ![4096, 1, 128]⟩

abbrev nBuf : Table → Nat
  | .hbm => 5
  | .local .scVector .vmem => 2
  | _ => 0

abbrev bufTy : (tb : Table) → Fin (nBuf tb) → BufTy
  | .hbm, ⟨0, _⟩ => ⟨S4096x200x128, .f32⟩
  | .hbm, ⟨1, _⟩ => ⟨S4096, .i32⟩
  | .hbm, ⟨2, _⟩ => ⟨S819200x128, .f32⟩
  | .hbm, ⟨3, _⟩ => ⟨S4096x128, .f32⟩
  | .hbm, ⟨4, _⟩ => ⟨S4096x1x128, .f32⟩
  | .local .scVector .vmem, ⟨0, _⟩ => ⟨S128, .i32⟩
  | .local .scVector .vmem, ⟨1, _⟩ => ⟨S128x128, .f32⟩
  | _, _ => ⟨S4096x200x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_27_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200x128 : Shape := ⟨3, ![4096, 200, 128]⟩
abbrev S4096 : Shape := ⟨1, ![4096]⟩
abbrev S4096x1x1 : Shape := ⟨3, ![4096, 1, 1]⟩
abbrev S4096x1x128 : Shape := ⟨3, ![4096, 1, 128]⟩
abbrev S_ : Shape := ⟨0, ![]⟩
abbrev S4096x1x128x1 : Shape := ⟨4, ![4096, 1, 128, 1]⟩
abbrev S1 : Shape := ⟨1, ![1]⟩
abbrev S1x1x1x1 : Shape := ⟨4, ![1, 1, 1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x200x128, .f32⟩
  | .hbm, ⟨1, _⟩ => ⟨S4096, .i32⟩
  | .hbm, ⟨2, _⟩ => ⟨S4096x1x1, .i32⟩
  | .hbm, ⟨3, _⟩ => ⟨S4096x1x128, .i32⟩
  | .hbm, ⟨4, _⟩ => ⟨S_, .i32⟩
  | .hbm, ⟨5, _⟩ => ⟨S4096x1x128, .i32⟩
  | .hbm, ⟨6, _⟩ => ⟨S4096x1x128, .i1⟩
  | .hbm, ⟨7, _⟩ => ⟨S_, .i32⟩
  | .hbm, ⟨8, _⟩ => ⟨S4096x1x128, .i32⟩
  | .hbm, ⟨9, _⟩ => ⟨S4096x1x128, .i32⟩
  | .hbm, ⟨10, _⟩ => ⟨S4096x1x128, .i32⟩
  | .hbm, ⟨11, _⟩ => ⟨S4096x1x128x1, .i32⟩
  | .hbm, ⟨12, _⟩ => ⟨S1, .i32⟩
  | .hbm, ⟨13, _⟩ => ⟨S_, .i32⟩
  | .hbm, ⟨14, _⟩ => ⟨S4096x1x128x1, .i32⟩
  | .hbm, ⟨15, _⟩ => ⟨S4096x1x128x1, .i1⟩
  | .hbm, ⟨16, _⟩ => ⟨S1x1x1x1, .i32⟩
  | .hbm, ⟨17, _⟩ => ⟨S4096x1x128x1, .i32⟩
  | .hbm, ⟨18, _⟩ => ⟨S4096x1x128x1, .i1⟩
  | .hbm, ⟨19, _⟩ => ⟨S4096x1x128x1, .i1⟩
  | .hbm, ⟨20, _⟩ => ⟨S_, .i1⟩
  | .hbm, ⟨21, _⟩ => ⟨S4096x1x128, .i1⟩
  | .hbm, ⟨22, _⟩ => ⟨S4096x1x128, .f32⟩
  | .hbm, ⟨23, _⟩ => ⟨S_, .f32⟩
  | .hbm, ⟨24, _⟩ => ⟨S4096x1x128, .f32⟩
  | .hbm, ⟨25, _⟩ => ⟨S4096x1x128, .f32⟩
  | _, _ => ⟨S4096x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v2 : Ref sig .tc := ⟨.hbm, 25, rfl⟩

abbrev nD : Nat := 1
abbrev τ : Topo := Topo.v7x

variable {F : FTy → Type} [FloatOps F]
-- ==== Proof.Words.lean ====
/-
  The arithmetic of the row numbers, apart from any program: the word the kernel computes for the row of the flattened
  table, and its value as a natural number.
-/
module

public import Mathlib.Tactic.Ring
public import Idealize.ShloMosaic.Lib.StableHlo.Run

@[expose] public section

namespace Cert.Proof.Words

/-- The kernel's word for chunk `k`, lane `l` of the block of SparseCore `a`, subcore `b` is the index word plus 200
    times the number of the row of the index array. -/
theorem row_word (x : BitVec 32) (a b k l : ℕ) :
    x + ((BitVec.ofNat 32 b * 2#32 + BitVec.ofNat 32 a) * 128#32 + BitVec.ofNat 32 k) * 200#32 + BitVec.ofNat 32 l * 200#32
      = x + BitVec.ofNat 32 ((256 * b + 128 * a + (k + l)) * 200) := by
  apply BitVec.eq_of_toNat_eq
  simp only [BitVec.toNat_add, BitVec.toNat_mul, BitVec.toNat_ofNat]
  omega

/-- An index word below 200 plus 200 times a row number below 4096 does not wrap. -/
theorem row_word_toNat (x : BitVec 32) (n : ℕ) (hx : x.toNat < 200) (hn : n < 4096) :
    (x + BitVec.ofNat 32 (n * 200)).toNat = n * 200 + x.toNat := by
  simp only [BitVec.toNat_add, BitVec.toNat_ofNat]
  omega

end Cert.Proof.Words

end
-- ==== Proof.Picked.lean ====
/-
  What the program is to compute, apart from any program: of each of 4096 groups of 200 rows, the row an index names
  (`pick`); and what the claims' precondition says of the indices (`index_lt`).
-/
module

public import proofs.«01_k».proof.Pre_in_range
public import Idealize.ShloMosaic.Lib.Pipeline.Value
public import Idealize.ShloMosaic.Lib.ReduceAll

@[expose] public section

namespace Cert.Proof.Picked

open Idealize.ShloMosaic

abbrev Groups : Shape := ⟨3, ![4096, 200, 128]⟩
abbrev Indices : Shape := ⟨1, ![4096]⟩
abbrev Rows : Shape := ⟨3, ![4096, 1, 128]⟩

/-- The place of group `r`'s index. -/
abbrev place (r : Fin 4096) : Indices.Idx := fun | 0 => r
/-- Group `r`'s row `k`, column `c`. -/
abbrev cell (r : Fin 4096) (k : Fin 200) (c : Fin 128) : Groups.Idx := fun | 0 => r | 1 => k | 2 => c

/-- Of each group the row its index names: entry `(r, 0, c)` is `x (r, w r, c)`. -/
def pick {α : Type} (x : Groups.Idx → α) (w : Indices.Idx → BitVec 32) : Rows.Idx → α :=
  fun j => x (cell (j 0) (Fin.ofNat 200 (w (place (j 0))).toNat) (j 2))

abbrev Flat : Shape := ⟨2, ![819200, 128]⟩
abbrev Taken : Shape := ⟨2, ![4096, 128]⟩

/-- Row `r`, column `c` of the flattened groups. -/
abbrev flatCell (r : Fin 819200) (c : Fin 128) : Flat.Idx := fun | 0 => r | 1 => c

/-- The groups flattened to rows, row `200 * r + w r` taken for each `r`, and the rows taken given the result's shape:
    that is `pick`. -/
theorem pick_of_flat {α : Type} (x : Groups.Idx → α) (w : Indices.Idx → BitVec 32) (h : Groups.ShapeCasts Flat)
    (h' : Taken.ShapeCasts Rows) (row : Fin 4096 → Fin 819200) (hw : ∀ r, (w (place r)).toNat < 200)
    (hrow : ∀ r, (row r).val = r.val * 200 + (w (place r)).toNat) :
    shapeCast Rows (fun i : Taken.Idx => shapeCast Flat x h (flatCell (row (i 0)) (i 1))) h' = pick x w := by
  funext j
  have h1 : (j 1).val < 1 := (j 1).isLt
  refine (shapeCast_apply _ h' j (fun | 0 => j 0 | 1 => j 2) ?_).trans ?_
  · rw [Shape.rowMajor_val_two, Shape.rowMajor_val_three]
    show (j 0).val * 128 + (j 2).val = ((j 0).val * 1 + (j 1).val) * 128 + (j 2).val
    omega
  · refine shapeCast_apply x h (flatCell (row (j 0)) (j 2)) _ ?_
    rw [Shape.rowMajor_val_two, Shape.rowMajor_val_three]
    show ((j 0).val * 200 + (w (place (j 0))).toNat % 200) * 128 + (j 2).val = (row (j 0)).val * 128 + (j 2).val
    have e := hrow (j 0)
    have l := hw (j 0)
    rw [Nat.mod_eq_of_lt l]
    exact congrArg (· * 128 + (j 2).val) e.symm

/-- A word that is at least 0 and below 200 as a signed number is below 200 as a natural number. -/
theorem word_lt (v : BitVec 32) (e : IntOp.andi (IntOp.cmpi .sge v 0#32) (IntOp.cmpi .slt v 200#32) = 1#1) : v.toNat < 200 := by
  obtain ⟨h0, h1⟩ := IntOp.andi_eq_one.1 e
  have one (p : Bool) : (BitVec.ofBool p = 1#1) ↔ p = true := by cases p <;> decide
  simp only [IntOp.cmpi, one, BitVec.sle_eq_decide, BitVec.slt_eq_decide, decide_eq_true_eq, BitVec.toInt_eq_toNat_cond,
    BitVec.toNat_ofNat, Nat.reducePow, Nat.reduceMod] at h0 h1
  omega

/-- The precondition, all ones, puts every index below 200. -/
theorem index_lt {F : FTy → Type} [FloatOps F] [Cert.Pre_in_range.Facts] (x : FVec F Groups .f32) (w : IVec Indices 32)
    (h : Cert.Pre_in_range.fn (F := F) x w = fun _ => 1#1) (i : Indices.Idx) : (w i).toNat < 200 := by
  have hs : Subsingleton (Cert.Pre_in_range.S_).Idx := ⟨fun a b => funext fun k => k.elim0⟩
  unfold Cert.Pre_in_range.fn at h
  exact word_lt (w i) (Host.reduce_andi_all _ _ _ _ (fun k => k.elim0) (congrFun h _) i)

end Cert.Proof.Picked
-- ==== Proof.KernelIdealTask.lean ====
/-
  One task of the kernel on one vector subcore, with the value it computes.

  The rows of the index array and of the output are cut into 32 blocks of 128, block `2 * subcore + SparseCore` belonging
  to that subcore. A task fetches its block of indices, turns each index into a row number of the flattened table, gathers
  those rows, and writes them out to its block. `gathered` is the whole array the tasks leave together, as a function of
  the launch memory; the task's post says that its block holds exactly that.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Pipeline.ValueKit.Geometry
public import Idealize.ShloMosaic.Lib.Tactic
public import proofs.«01_k».proof.Proof.Gen.KernelIdeal
public import proofs.«01_k».proof.Proof.Gen.KernelIdeal.Skeleton
public import proofs.«01_k».proof.Proof.Words

@[expose] public section

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the call's semaphores and storage. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

/-- The table as it is passed, the indices, the flattened table, the kernel's output and the reshaped result. -/
abbrev embLoc (d : Dev nD) : Loc nD τ sig := (SparseCore.T d).loc main_arg0
abbrev idxLoc (d : Dev nD) : Loc nD τ sig := (SparseCore.T d).loc main_arg1
abbrev tabLoc (d : Dev nD) : Loc nD τ sig := (SparseCore.T d).loc main_v0
abbrev outLoc (d : Dev nD) : Loc nD τ sig := (SparseCore.T d).loc main_v1
abbrev resLoc (d : Dev nD) : Loc nD τ sig := (SparseCore.T d).loc main_v2

abbrev tabV : Memref sig .scVector .hbm S819200x128 .f32 := Memref.whole main_v0_scv
abbrev idxV : Memref sig .scVector .hbm S4096 .i32 := Memref.whole main_arg1_scv
abbrev outV : Memref sig .scVector .hbm S4096x128 .f32 := Memref.whole main_v1_scv
abbrev listV : Memref sig .scVector .vmem S128 .i32 := Memref.whole cc0_scratch0
abbrev rowsV : Memref sig .scVector .vmem S128x128 .f32 := Memref.whole cc0_scratch1

/-- Place `r` of a vector of length 4096. -/
abbrev at1 (r : Fin 4096) : S4096.Idx := fun | 0 => r
/-- Row `r`, column `c` of the flattened table. -/
abbrev atTab (r : Fin 819200) (c : Fin 128) : S819200x128.Idx := fun | 0 => r | 1 => c

/-- The flattened table: the table's elements in row-major order. -/
def flat (d : Dev nD) : Buf (Elt F) (tabLoc d) := shapeCast S819200x128 (m (embLoc d)) shapeCasts_S4096x200x128_S819200x128

/-- The index at place `r`. -/
abbrev idxWord (d : Dev nD) (r : Fin 4096) : BitVec 32 := m (idxLoc d) (at1 r)

/-- The number of the flattened table's row that row `r` of the output takes. -/
def rowOf (d : Dev nD) (r : Fin 4096) : Fin 819200 := Fin.ofNat 819200 (r.val * 200 + (idxWord m d r).toNat)

/-- What the kernel leaves in its output: row `r` is row `200 * r + index r` of the flattened table. -/
def gathered (d : Dev nD) : Buf (Elt F) (outLoc d) := fun j : S4096x128.Idx => flat m d (atTab (rowOf m d (j 0)) (j 1))

/-- What is asked of the launch memory: every index below 200. -/
def InRange : Prop := ∀ (d : Dev nD) (r : Fin 4096), (idxWord m d r).toNat < 200

/-! ## The blocks -/

theorem idx_div : 16 * 2 ∣ S4096.size 0 := ⟨128, rfl⟩
theorem out_div : 16 * 2 ∣ S4096x128.size 0 := ⟨128, rfl⟩

/-- The block of subcore `i` of SparseCore `c`: number `2 * i + c`. -/
abbrev blk (c : Fin 2) (i : Fin 16) : Fin (16 * 2) := finProdFinEquiv (i, c)
abbrev idxRect (b : Fin (16 * 2)) : Rect S4096 := Rect.part (s := S4096) (a₀ := 0) idx_div b
abbrev outRect (b : Fin (16 * 2)) : Rect S4096x128 := Rect.part (s := S4096x128) (a₀ := 0) out_div b
/-- Block `b`'s read share of the flattened table. -/
abbrev tabShare (b : Fin (16 * 2)) : PosShare TreeShare := pieceOf fullShare (16 * 2) (by decide) b

/-- What one task holds: its block of the indices, a share of the flattened table, its block of the output at `f`. -/
abbrev taskRes (d : Dev nD) (b : Fin (16 * 2)) (f : Buf (Elt F) (outLoc d)) : sProp 𝕄 :=
  iprop((idxLoc d ↦[(idxRect b).set]{fullShare} m (idxLoc d)) ∗ (tabLoc d ↦{tabShare b} flat m d) ∗ outLoc d ↦[(outRect b).set]{fullShare} f)

/-- The three arrays whole are the tasks' shares of them, over the SparseCores and their subcores. -/
theorem taskRes_all (d : Dev nD) (f : Buf (Elt F) (outLoc d)) :
    (iprop((idxLoc d ↦{fullShare} m (idxLoc d)) ∗ (tabLoc d ↦{fullShare} flat m d) ∗ outLoc d ↦{fullShare} f) : sProp 𝕄)
      = bigSep Finset.univ fun c : Fin 2 => bigSep Finset.univ fun i : Fin 16 => taskRes m d (blk c i) f := by
  have hi : (idxLoc d ↦{fullShare} m (idxLoc d) : sProp 𝕄) = bigSep Finset.univ fun b : Fin (16 * 2) => idxLoc d ↦[(idxRect b).set]{fullShare} m (idxLoc d) := by
    rw [← pointsTo_biUnion Finset.univ (ℓ := idxLoc d) (fun b => (idxRect b).set) (fun b _ b' _ h => Rect.part_disjoint idx_div h), Rect.biUnion_part idx_div]
    try rfl
  have ho : (outLoc d ↦{fullShare} f : sProp 𝕄) = bigSep Finset.univ fun b : Fin (16 * 2) => outLoc d ↦[(outRect b).set]{fullShare} f := by
    rw [← pointsTo_biUnion Finset.univ (ℓ := outLoc d) (fun b => (outRect b).set) (fun b _ b' _ h => Rect.part_disjoint out_div h), Rect.biUnion_part out_div]
    try rfl
  rw [hi, ho, pointsTo_piecesOf Finset.univ (flat m d) (by decide : 0 < 16 * 2) fullShare, ← bigSep_sep', ← bigSep_sep',
    bigSep_univ_equiv finProdFinEquiv, bigSep_univ_prod, bigSep_univ_comm]

/-! ## The task's own cells and storage -/

section Task

variable (d : Dev nD) (L : grid0.Coords)

abbrev coreV (L : grid0.Coords) : Fin τ.nSC := (L 0).castLE hcore0
abbrev subV (L : grid0.Coords) : Fin τ.nSub := (L 1).castLE hsub0
/-- The subcore's thread. -/
abbrev vec (d : Dev nD) (L : grid0.Coords) : Thread nD τ := V d (coreV L) (subV L)
/-- The subcore's block. -/
abbrev blkL (L : grid0.Coords) : Fin (16 * 2) := blk (Fin.cast rfl (L 0)) (Fin.cast rfl (L 1))

abbrev idxCell (d : Dev nD) (L : grid0.Coords) : GSem nD τ sig := (vec d L, .dma cc0_scoped0.sem)
abbrev outCell (d : Dev nD) (L : grid0.Coords) : GSem nD τ sig := (vec d L, .dma cc0_scoped1.sem)
abbrev gatherCell (d : Dev nD) (L : grid0.Coords) : GSem nD τ sig := (vec d L, .dma cc0_scratch2.sem)

/-- The subcore's semaphore cells are the three transfers' and the rest. -/
theorem ownSems0_vec :
    (ownSems0 (vec d L) : sProp 𝕄)
      = iprop(semVal (idxCell d L) 0 ∗ semVal (outCell d L) 0 ∗ semVal (gatherCell d L) 0
          ∗ bigSep ((((ownCells (vec d L)).erase (idxCell d L)).erase (outCell d L)).erase (gatherCell d L)) fun g => semVal g 0) := by
  unfold SparseCore.Cfg.ownSems0
  rw [SparseCore.bigSep_erase' ((mem_ownCells (g := idxCell d L)).mpr ⟨rfl, by
      show (SemLoc.dma cc0_scoped0.sem : SemLoc sig).isScoped .scVector = true; decide⟩),
    SparseCore.bigSep_erase' (Finset.mem_erase.mpr ⟨by simp [idxCell, outCell]; decide, (mem_ownCells (g := outCell d L)).mpr ⟨rfl, by
      show (SemLoc.dma cc0_scoped1.sem : SemLoc sig).isScoped .scVector = true; decide⟩⟩),
    SparseCore.bigSep_erase' (Finset.mem_erase.mpr ⟨by simp [outCell, gatherCell]; decide, Finset.mem_erase.mpr ⟨by simp [idxCell, gatherCell]; decide,
      (mem_ownCells (g := gatherCell d L)).mpr ⟨rfl, by show (SemLoc.dma cc0_scratch2.sem : SemLoc sig).isScoped .scVector = true; decide⟩⟩⟩)]

/-- The subcore's own buffers are the two scratch arrays, at some contents, and the rest. -/
theorem ownBufs_vec :
    (ownBufs (vec d L) : sProp 𝕄)
      = iprop((∃ f, (vec d L).loc cc0_scratch0 ↦{fullShare} f) ∗ (∃ f, (vec d L).loc cc0_scratch1 ↦{fullShare} f)
          ∗ bigSep (((ownRefs (τ := τ) (.scVector (coreV L) (subV L))).erase ((Proc.scVector (coreV L) (subV L)).devRef cc0_scratch0)).erase
              ((Proc.scVector (coreV L) (subV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (coreV L) (subV L))
    (b := (Proc.scVector (coreV L) (subV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (coreV L) (subV L)) (b := (Proc.scVector (coreV L) (subV L)).devRef cc0_scratch1) rfl⟩)]

/-! ## The blocks as the task addresses them -/

abbrev idxRectK (L : grid0.Coords) : Rect S4096 := Rect.unit (s := S4096) (k0_off1 L) S128.size (k0_off1_inb L)
abbrev outRectK (L : grid0.Coords) : Rect S4096x128 := Rect.unit (s := S4096x128) (k0_off2 L) S128x128.size (k0_off2_inb L)
abbrev idxK (L : grid0.Coords) : Memref sig .scVector .hbm S128 .i32 := (idxV).slice (idxRectK L) (fun _ => rfl)
abbrev outK (L : grid0.Coords) : Memref sig .scVector .hbm S128x128 .f32 := (outV).slice (outRectK L) (fun _ => rfl)
abbrev tabK : Memref sig .scVector .hbm S819200x128 .f32 := (tabV).slice (Rect.unit (s := S819200x128) ![0, 0] S819200x128.size inb_S819200x128_S819200x128_0_0) (fun _ => rfl)

theorem blkL_val : (blkL L).val = (L 0).val + 2 * (L 1).val := rfl

theorem idxRectK_eq : idxRectK L = idxRect (blkL L) := by
  unfold idxRectK idxRect Rect.part Rect.block
  congr 1 <;> funext a
  · rw [k0_off1_eq]
    match a with
    | 0 => simp [Shape.partIx, Shape.partSize, blkL, blk, finProdFinEquiv, id]; omega
  · match a with
    | 0 => simp [Shape.partSize]
theorem outRectK_eq : outRectK L = outRect (blkL L) := by
  unfold outRectK outRect Rect.part Rect.block
  congr 1 <;> funext a
  · rw [k0_off2_eq]
    match a with
    | 0 => simp [Shape.partIx, Shape.partSize, blkL, blk, finProdFinEquiv, id]; omega
    | 1 => simp [Shape.partIx, Shape.partSize]
  · match a with
    | 0 => simp [Shape.partSize]
    | 1 => simp [Shape.partSize]

theorem set_idxK : (idxK L).view.set = (idxRect (blkL L)).set := by
  show ((View.whole (main_arg1_scv : Ref sig .scVector)).slice (idxRectK L)).set = _
  rw [View.set_slice, ← idxRectK_eq]; exact Finset.map_refl
theorem set_outK : (outK L).view.set = (outRect (blkL L)).set := by
  show ((View.whole (main_v1_scv : Ref sig .scVector)).slice (outRectK L)).set = _
  rw [View.set_slice, ← outRectK_eq]; exact Finset.map_refl

theorem pts_idxK (f : Buf (Elt F) (idxLoc d)) :
    ((idxK L).view.loc (vec d L) ↦[(idxK L).view.set]{fullShare} f : sProp 𝕄) = idxLoc d ↦[(idxRect (blkL L)).set]{fullShare} f := by
  rw [set_idxK]
theorem pts_outK (f : Buf (Elt F) (outLoc d)) :
    ((outK L).view.loc (vec d L) ↦[(outK L).view.set]{fullShare} f : sProp 𝕄) = outLoc d ↦[(outRect (blkL L)).set]{fullShare} f := by
  rw [set_outK]
theorem pts_tabV (q : PosShare TreeShare) (f : Buf (Elt F) (tabLoc d)) :
    ((tabV).view.loc (vec d L) ↦{q} f : sProp 𝕄) = tabLoc d ↦{q} f := rfl
theorem pts_listV (f : Buf (Elt F) ((vec d L).loc cc0_scratch0)) :
    ((listV).view.loc (vec d L) ↦{fullShare} f : sProp 𝕄) = (vec d L).loc cc0_scratch0 ↦{fullShare} f := rfl
theorem pts_rowsV (f : Buf (Elt F) ((vec d L).loc cc0_scratch1)) :
    ((rowsV).view.loc (vec d L) ↦{fullShare} f : sProp 𝕄) = (vec d L).loc cc0_scratch1 ↦{fullShare} f := rfl

/-! ## The list of row numbers -/

/-- The row of the index array, and of the output, at place `y` of the subcore's block. -/
def rowAt (L : grid0.Coords) (y : Fin 128) : Fin 4096 :=
  ⟨256 * (L 1).val + 128 * (L 0).val + y.val, by
    have h0 : (L 0).val < 2 := (L 0).isLt
    have h1 : (L 1).val < 16 := (L 1).isLt
    have := y.isLt
    omega⟩

/-- The word the task puts at place `y` of its list: the index there plus 200 times its row. -/
def listWord (y : S128.Idx) : BitVec 32 := idxWord m d (rowAt L (y 0)) + BitVec.ofNat 32 ((rowAt L (y 0)).val * 200)

/-- The fetched block, read at a place. -/
theorem read_idxK (x : S128.Idx) : (idxK L).view.read (Elt F) (m (idxLoc d)) x = idxWord m d (rowAt L (x 0)) := by
  refine (View.read_apply (v := (idxK L).view) (m (idxLoc d)) x).trans ((cast_eq _ _).trans (congrArg (m (idxLoc d)) (funext fun a => ?_)))
  match a with
  | 0 =>
    exact Fin.ext ((ValueKit.view_emb_slice_whole_unit_val main_arg1_scv (k0_off1 L) S128.size (k0_off1_inb L) x 0).trans
      (congrArg (· + (x 0).val) (congrFun (k0_off1_eq L) 0)))

/-- A chunk of 16 words loaded at place `k` of the fetched block. -/
theorem load_chunk (fl : Buf (Elt F) ((vec d L).loc cc0_scratch0)) (k : ℕ) (inb : ∀ a, (![k] : Fin 1 → ℕ) a + S16.size a ≤ S128.size a)
    (w : S128.Idx → Elt F .i32) (hw : w = (idxK L).view.read (Elt F) (m (idxLoc d)))
    (x : (Rect.unit (s := S128) ![k] S16.size inb).shape.Idx) :
    View.readAt (Elt F) (listV).view (Rect.unit (s := S128) ![k] S16.size inb).toLoadRect (View.write (Elt F) (listV).view fl w Finset.univ) x
      = idxWord m d (rowAt L ((Rect.unit (s := S128) ![k] S16.size inb).emb x 0)) := by
  subst hw
  rw [View.readAt_apply, View.read_write_univ]
  exact read_idxK m d L _

/-- A chunk stored at place `k`, each word the loaded one plus the block's, the chunk's and the lane's share of 200 times
    the row, holds `listWord`. -/
theorem store_chunk (k : ℕ) (inb : ∀ a, (![k] : Fin 1 → ℕ) a + S16.size a ≤ S128.size a)
    (v w : (Rect.unit (s := S128) ![k] S16.size inb).shape.Idx → BitVec 32)
    (hv : ∀ x, v x = idxWord m d (rowAt L ((Rect.unit (s := S128) ![k] S16.size inb).emb x 0)))
    (hw : ∀ x, w x = v x + ((BitVec.ofNat 32 (L 1).val * 2#32 + BitVec.ofNat 32 (L 0).val) * 128#32 + BitVec.ofNat 32 k) * 200#32
      + iota .scVector S16 32 [0] iota_S16_d0_w32_scVector x * 200#32)
    (x : (Rect.unit (s := S128) ![k] S16.size inb).shape.Idx) :
    w x = listWord m d L ((Rect.unit (s := S128) ![k] S16.size inb).emb x) := by
  rw [hw, hv, show iota .scVector S16 32 [0] iota_S16_d0_w32_scVector x = BitVec.ofNat 32 (x 0).val from
    congrArg (BitVec.ofNat 32) (Nat.zero_add _), Words.row_word]
  unfold listWord
  have e : ((Rect.unit (s := S128) ![k] S16.size inb).emb x 0).val = k + (x 0).val := ValueKit.rect_emb_unit_val (s := S128) ![k] S16.size inb x 0
  have e' : (rowAt L ((Rect.unit (s := S128) ![k] S16.size inb).emb x 0)).val = 256 * (L 1).val + 128 * (L 0).val + (k + (x 0).val) := by
    unfold rowAt; simp only [e]
  rw [e']

/-- The value of a word of the list: the flattened table's row of the output's row there. -/
theorem listWord_toNat (hpre : InRange m) (y : S128.Idx) : (listWord m d L y).toNat = (rowOf m d (rowAt L (y 0))).val := by
  have h := hpre d (rowAt L (y 0))
  have hr := (rowAt L (y 0)).isLt
  unfold listWord rowOf
  rw [Words.row_word_toNat _ _ h hr, Fin.val_ofNat, Nat.mod_eq_of_lt (by omega)]

/-- Every word of the list is a row of the flattened table. -/
theorem listWord_lt (hpre : InRange m) (y : S128.Idx) : (listWord m d L y).toNat < 819200 := by
  rw [listWord_toNat m d L hpre]; exact Fin.isLt _

/-! ## The rows gathered -/

/-- What the stream gathers from the flattened table by the list is the block's part of `gathered`. -/
theorem payload_eq (hpre : InRange m) (w : S128.Idx → BitVec 32) (hw : ∀ y, w y = listWord m d L y)
    (hn : S128.numel = S128x128.size gathers_S819200x128_S128x128.axis')
    (hin : ∀ x, (w x).toNat < S819200x128.size gathers_S819200x128_S128x128.axis) (x : S128x128.Idx) :
    SparseCore.gatherPayload (F := F) (e := .f32) gathers_S819200x128_S128x128 (tabK.view.read (Elt F) (flat m d))
        (SparseCore.rows (F := F) w hn hin) x
      = gathered m d ((outK L).view.emb x) := by
  obtain rfl : w = listWord m d L := funext hw
  unfold SparseCore.gatherPayload gathered
  refine (View.read_apply (v := tabK.view) (flat m d) _).trans ((cast_eq _ _).trans (congrArg (flat m d) (funext fun a => ?_)))
  have hx0 : ((outK L).view.emb x 0).val = 256 * (L 1).val + 128 * (L 0).val + (x 0).val := by
    exact (ValueKit.view_emb_slice_whole_unit_val main_v1_scv (k0_off2 L) S128x128.size (k0_off2_inb L) x 0).trans
      (congrArg (· + (x 0).val) (congrFun (k0_off2_eq L) 0))
  have hx1 : ((outK L).view.emb x 1).val = (x 1).val := by
    exact (ValueKit.view_emb_slice_whole_unit_val main_v1_scv (k0_off2 L) S128x128.size (k0_off2_inb L) x 1).trans
      ((congrArg (· + (x 1).val) (congrFun (k0_off2_eq L) 1)).trans (Nat.zero_add _))
  refine Fin.ext ((ValueKit.view_emb_slice_whole_unit_val main_v0_scv ![0, 0] S819200x128.size inb_S819200x128_S819200x128_0_0 _ a).trans ?_)
  match a with
  | 0 =>
    refine (Nat.zero_add _).trans ?_
    refine (congrArg Fin.val (Shape.Gathers.idx_axis gathers_S819200x128_S128x128 _ x)).trans ?_
    show (listWord m d L _).toNat = (rowOf m d ((outK L).view.emb x 0)).val
    rw [listWord_toNat m d L hpre]
    refine congrArg (fun r => (rowOf m d r).val) (Fin.ext ?_)
    rw [hx0]
    unfold rowAt
    refine congrArg (256 * (L 1).val + 128 * (L 0).val + ·) ?_
    refine (Shape.rowMajor_val_one _).symm.trans ?_
    rw [Equiv.apply_symm_apply]; rfl
  | 1 =>
    refine (Nat.zero_add _).trans ?_
    refine (Shape.Gathers.idx_of_ne gathers_S819200x128_S128x128 _ x 1 (by decide)).trans ?_
    exact hx1.symm

variable [FloatOps F]

set_option maxHeartbeats 4000000 in
/-- The task on a vector subcore: from its share of the three arrays, its block of the output ends at `gathered`. -/
theorem task (hF : (K (F := F)).Facts) (hpre : InRange m) (O : CellTallies nD τ sig (HIx 1)) (W : Waits sig (HIx 1)) (hO : ∀ g, O g none = 0) :
    iprop(levAts (K (F := F)).L (K (F := F)).lev ∗ emp ∗ taskRes m d (blkL L) (m (outLoc d))
        ∗ scopedBufs (vec d L) ∗ scopedSems0 (vec d L) ∗ owes (vec d L) O W)
      ⊢ wp frame (wpE (defs₀ (F := F)) 𝒱₀ (vec d L) none) Set.univ
          (cc0__gather_rows L tabV (Memref.isWhole_whole _) idxV (Memref.isWhole_whole _) outV (Memref.isWhole_whole _)
            listV (Memref.isWhole_whole _) rowsV (Memref.isWhole_whole _) cc0_scratch2 cc0_scoped0 cc0_scoped1)
          fun _ => iprop(taskRes m d (blkL L) (gathered m d)
            ∗ scopedBufs (vec d L) ∗ scopedSems0 (vec d L)
            ∗ ∃ W', ⌜∀ p ∈ W', p ∈ W ∨ p.2 = none⌝ ∗ owes (vec d L) O W') := by
  simp only [cc0__gather_rows_eq_skeleton]; unfold cc0__gather_rows_skel
  simp only [k0_part1_eq_skeleton, k0_part2_eq_skeleton]; unfold k0_part1_skel k0_part2_skel
  rw [(K (F := F)).scopedBufs_V hF d (coreV L) (subV L), SparseCore.Cfg.scopedSems0_V (Val := Elt F) d (coreV L) (subV L), ownSems0_vec, ownBufs_vec]
  iintro ⟨#Hlv, -, ⟨Hi, Ht, Ho⟩, ⟨⟨%fl, Hl⟩, ⟨%fr, Hr⟩, Hbufs⟩, ⟨HsemI, HsemO, HsemG, Hsems⟩, HO⟩
  ihave Hmw := (show levAts (K (F := F)).L (K (F := F)).lev ⊢ Transfers.MayWaits (vec d L) (default : HIx 1) O from
    (K (F := F)).mayWaits_none (thr := vec d L) hO) $$ Hlv
  ihave Hi' := (Entails.of_eq (pts_idxK (F := F) d L _).symm) $$ Hi
  ihave Ho' := (Entails.of_eq (pts_outK (F := F) d L _).symm) $$ Ho
  ihave Ht' := (Entails.of_eq (pts_tabV (F := F) d L _ _).symm) $$ Ht
  ihave Hl' := (Entails.of_eq (pts_listV (F := F) d L _).symm) $$ Hl
  ihave Hr' := (Entails.of_eq (pts_rowsV (F := F) d L _).symm) $$ Hr
  sl_exec
  have hlist : ∀ y, (listV).view.read (Elt F) ((listV).view.writes (Elt F) (listV).view.junk (task.sl.Hl'_8 m d L fl)) y = listWord m d L y := by
    intro y
    refine View.read_writes_apply_of_pieces (Val := Elt F) (listV).view (listV).view.junk (listWord m d L) _ ?_ y ?_
    · unfold task.sl.Hl'_8
      simp only [List.forall_mem_cons, List.not_mem_nil, false_imp_iff, implies_true, and_true]
      refine ⟨?_, ?_, ?_, ?_, ?_, ?_, ?_, ?_⟩
      all_goals
        refine store_chunk m d L _ _ _ _ (load_chunk m d L fl _ _ _ rfl) fun x => ?_
        simp only [k0_pay1, k0_pay2, k0_pay3, k0_pay4, k0_pay5, k0_pay6, k0_pay7, k0_pay8, k0_pay9, k0_pay10, shapeCast_self]
        rfl
    · exact View.cover_of_tiled _ ![16] rfl y
  have hin : ∀ y, ((listV).view.read (Elt F) ((listV).view.writes (Elt F) (listV).view.junk (task.sl.Hl'_8 m d L fl)) y).toNat
      < S819200x128.size gathers_S819200x128_S128x128.axis := fun y => by rw [hlist]; exact listWord_lt m d L hpre y
  ihave Hts := (pointsTo_split_subset (q := tabShare (blkL L)) (f := flat m d) (S := Finset.univ) (Finset.subset_univ (tabK).view.set)).1 $$ Ht'
  icases Hts with ⟨Hts, Htr⟩
  have hrs : (rowsV).view.set = Finset.univ := View.set_whole _
  have hls : (listV).view.set = Finset.univ := View.set_whole _
  ihave Hr2 := (Entails.of_eq (show ((rowsV).view.loc (vec d L) ↦{fullShare} fr : sProp 𝕄)
      = (rowsV).view.loc (vec d L) ↦[(rowsV).view.set]{fullShare} fr by rw [hrs])) $$ Hr'
  ihave Hl2 := (Entails.of_eq (show ((listV).view.loc (vec d L) ↦{fullShare} (listV).view.writes (Elt F) (listV).view.junk (task.sl.Hl'_8 m d L fl) : sProp 𝕄)
      = (listV).view.loc (vec d L) ↦[(listV).view.set]{fullShare} (listV).view.writes (Elt F) (listV).view.junk (task.sl.Hl'_8 m d L fl)
      by rw [hls])) $$ Hl'
  have hN : ∀ h : S819200x128.Gathers 0 S128x128, ∑ j, ((rowsV).slice (S128x128.rowRect h.axis' j) (S128x128.stride_rowRect h.axis' j)).view.dmaCredit
      = (rowsV).view.dmaCredit := by decide
  iapply (SparseCore.wp_indirectGatherLocal countersEmb 𝒱₀ (vec d L) none (hg := gathers_S819200x128_S128x128) (default : HIx 1)
      (rowsV).view.dmaCredit (hN _) (by decide) hin) $$ [Hts Hr2 Hl2 HsemG]
  · isplitl [Hts]; · iexact Hts
    isplitl [Hr2]; · iexact Hr2
    isplitl [Hl2]; · iexact Hl2
    iexact HsemG
  iintro Hfl
  sl_exec
  iapply (Transfers.wp_waitLocalO countersEmb 𝒱₀ (vec d L) none (default : HIx 1) (rfl : (rowsV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hl'⟩, HsemG, HO⟩
  ihave Ht' := (pointsTo_split_subset (q := tabShare (blkL L)) (f := flat m d) (S := Finset.univ) (Finset.subset_univ (tabK).view.set)).2 $$ [Hts Htr]; · isplitl [Hts] <;> iassumption
  ihave Hr3 := (Entails.of_eq (show ((rowsV).view.loc (vec d L) ↦[(rowsV).view.set]{fullShare} _ : sProp 𝕄)
      = (rowsV).view.loc (vec d L) ↦{fullShare} _ by rw [hrs])) $$ Hr'
  ihave Hl3 := (Entails.of_eq (show ((listV).view.loc (vec d L) ↦[(listV).view.set]{fullShare} _ : sProp 𝕄)
      = (listV).view.loc (vec d L) ↦{fullShare} _ by rw [hls])) $$ Hl'
  sl_exec
  sl_step
  have hout : ((outK L).view.loc (vec d L) ↦[(outK L).view.set]{fullShare}
        (outK L).view.writes (Elt F) (m (outLoc d)) [⟨Rect.whole S128x128, task.sl.dma0_1 m d L fl fr hin⟩] : sProp 𝕄)
      = outLoc d ↦[(outRect (blkL L)).set]{fullShare} gathered m d := by
    rw [← pts_outK d L]
    refine pointsTo_congr fun i hi => ?_
    obtain ⟨x, -, rfl⟩ := Finset.mem_map.mp hi
    have h := View.read_writes_apply_of_pieces (outK L).view (m (outLoc d)) (fun x => gathered m d ((outK L).view.emb x))
      [⟨Rect.whole S128x128, task.sl.dma0_1 m d L fl fr hin⟩] ?_ x ⟨_, List.mem_singleton_self _, by rw [Rect.set_whole]; exact Finset.mem_univ _⟩
    · exact (cast_eq _ _).symm.trans ((View.read_apply (v := (outK L).view) _ x).symm.trans h)
    · simp only [List.forall_mem_singleton]
      intro x
      rw [Rect.emb_whole_apply]
      unfold task.sl.dma0_1
      refine (congrFun (View.read_write_univ (v := (rowsV).view) fr _) x).trans ?_
      exact payload_eq m d L hpre _ hlist _ hin x
  isplitl [Hi' Ht' Ho']
  · isplitl [Hi']; · iapply (Entails.of_eq (pts_idxK (F := F) d L _)); iexact Hi'
    isplitl [Ht']; · iexact Ht'
    iapply (Entails.of_eq hout); iexact Ho'
  isplitl [Hl3 Hr3 Hbufs]
  · isplitl [Hl3]; · iexists _; iexact Hl3
    isplitl [Hr3]; · iexists _; iexact Hr3
    iexact Hbufs
  isplitl [HsemI HsemO HsemG Hsems]
  · isplitl [HsemI]; · iexact HsemI
    isplitl [HsemO]; · iexact HsemO
    isplitl [HsemG]; · iexact HsemG
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Task

end Cert.Proof.OnKernelIdeal

end
-- ==== Proof.KernelIdealRun.lean ====
/-
  The whole program on the machine: the flattening of the table, the kernel on 32 vector subcores, the reshape of its
  output. `run_main` says that from any memory whose indices are in range every execution ends, with the table and the
  indices as they were, the result at `result`, and every counter at zero; `frame` is the claim that follows.
-/
module

public import proofs.«01_k».proof.Proof.KernelIdealTask
public import proofs.«01_k».proof.Proof.Gen.Pre_in_range
public import proofs.«01_k».proof.Proof.Picked

@[expose] public section

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What passes between the program's threads -/

/-- Task `i` of SparseCore `c`'s share, the output at `f`. -/
abbrev tile (d : Dev nD) (f : Buf (Elt F) (outLoc d)) (c : Fin ((K (F := F)).nCore 0)) (i : Fin ((K (F := F)).nSub 0)) : sProp 𝕄 :=
  taskRes m d (blk (Fin.cast rfl c) (Fin.cast rfl i)) f

/-- What goes with each signal: to a SparseCore its tasks' shares and from it the same with the output gathered, to a task
    its own share and back. -/
def P : (K (F := F)).Pay (nD := nD) (Val := Elt F) (Name := ℕ) (U := UU) where
  st := fun q d c => match q with | 0 => bigSep Finset.univ fun i => tile m d (m (outLoc d)) c i
  dn := fun q d c => match q with | 0 => bigSep Finset.univ fun i => tile m d (gathered m d) c i
  go := fun q d c i => match q with | 0 => tile m d (m (outLoc d)) c i
  td := fun q d c i => match q with | 0 => tile m d (gathered m d) c i
  x := fun _ _ => iprop(emp)

instance P_storable : (P (F := F) m).IsStorable where
  st q d c := match q with
    | 0 => (inferInstance : BI.Storable (upEmb : UEmb _ 𝕄) (bigSep Finset.univ fun i => tile m d (m (outLoc d)) c i))
  dn q d c := match q with
    | 0 => (inferInstance : BI.Storable (upEmb : UEmb _ 𝕄) (bigSep Finset.univ fun i => tile m d (gathered m d) c i))
  go q d c i := match q with
    | 0 => (inferInstance : BI.Storable (upEmb : UEmb _ 𝕄) (tile m d (m (outLoc d)) c i))
  td q d c i := match q with
    | 0 => (inferInstance : BI.Storable (upEmb : UEmb _ 𝕄) (tile m d (gathered m d) c i))

/-! ## The tasks' obligation -/

/-- The grid point of subcore `s` of SparseCore `c`. -/
def point (c : Fin (grid0.bound 0)) (s : Fin (grid0.bound 1)) : grid0.Coords :=
  fun | 0 => c | 1 => s | ⟨_ + 2, h⟩ => absurd h (Nat.not_lt.2 (Nat.le_add_left _ _))

/-- The task a subcore runs is the kernel's body at its grid point. -/
theorem body_at (c : Fin τ.nSC) (s : Fin τ.nSub) :
    defs₀ (F := F) (.scVector c s) 0 ()
      = SparseCore.onTile hcore0 hsub0 (fun c s => cc0__gather_rows (point c s)
          tabV (Memref.isWhole_whole _) idxV (Memref.isWhole_whole _) outV (Memref.isWhole_whole _)
          listV (Memref.isWhole_whole _) rowsV (Memref.isWhole_whole _) cc0_scratch2 cc0_scoped0 cc0_scoped1) ⟨⟩ c s := rfl

omit [FloatOps F] in
/-- Waits that are old or the task's own are old, the task's own or the call's. -/
theorem waits_widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task does what `P` says of it. -/
theorem tasks (hpre : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [body_at]; simp only [SparseCore.onTile, hci, and_self, ↓reduceDIte]
  exact (task m d (point ⟨_, hci.1⟩ ⟨_, hci.2⟩) facts hpre O W hO).trans (wp_mono frame _ _ fun _ => waits_widen)

/-- A SparseCore's share is its tasks' shares, before and after. -/
theorem deal : (K (F := F)).VecSplit' (P m) 0 := by
  intro d c
  show (bigSep Finset.univ fun i => tile m d (m (outLoc d)) c i) ⊢ |={Set.univ}=> iprop(
      (bigSep Finset.univ fun i => tile m d (m (outLoc d)) c i)
      ∗ ((bigSep Finset.univ fun i => tile m d (gathered m d) c i) -∗ bigSep Finset.univ fun i => tile m d (gathered m d) c i))
  iintro H; imodintro
  isplitl [H]; · iexact H
  iintro H; iexact H

/-! ## The launch's ghost state -/

def u₀ : UU := (initOf (K (F := F)).hsCells (K (F := F)).hsToks, 1)

theorem launch_ghost : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_emp_const _).trans (bigSep_emp_const _)
  unfold u₀
  rw [hx, show (bigSep Finset.univ fun _ : Dev nD => iprop(emp)) = (iprop(emp) : sProp 𝕄) from bigSep_emp_const _]
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The program on the TensorCore -/

abbrev emb' : DevRef τ sig := Proc.devRef .tc main_arg0
abbrev idx' : DevRef τ sig := Proc.devRef .tc main_arg1
abbrev tab' : DevRef τ sig := Proc.devRef .tc main_v0
abbrev out' : DevRef τ sig := Proc.devRef .tc main_v1
abbrev res' : DevRef τ sig := Proc.devRef .tc main_v2

/-- The table flattened, and the kernel's output given the result's shape. -/
abbrev opFlat : HloOp τ sig (Elt F) := StableHlo.reshape main_arg0 main_v0 (rfl : (.f32 : EltTy) = .f32) shapeCasts_S4096x200x128_S819200x128
abbrev opRes : HloOp τ sig (Elt F) := StableHlo.reshape main_v1 main_v2 (rfl : (.f32 : EltTy) = .f32) shapeCasts_S4096x128_S4096x1x128

abbrev arrays : Finset (DevRef τ sig) := {emb', idx', tab', out', res'}

/-- What the program leaves in its result. -/
def result (d : Dev nD) : Buf (Elt F) (resLoc d) := shapeCast S4096x1x128 (gathered m d) shapeCasts_S4096x128_S4096x1x128

omit [FloatOps F] in
theorem held_arrays (d : Dev nD) (W : Valuation τ sig (Elt F)) :
    (held (T d) arrays W : sProp 𝕄)
      = iprop((embLoc d ↦{fullShare} W emb') ∗ (idxLoc d ↦{fullShare} W idx') ∗ (tabLoc d ↦{fullShare} W tab')
          ∗ (outLoc d ↦{fullShare} W out') ∗ resLoc d ↦{fullShare} W res') := by
  unfold held arrays
  rw [SparseCore.bigSep_insert' (by decide), SparseCore.bigSep_insert' (by decide), SparseCore.bigSep_insert' (by decide),
    SparseCore.bigSep_insert' (by decide), bigSep_singleton]

/-- The arrays as they are at the launch, and as the kernel leaves them. -/
def atLaunch (d : Dev nD) : Valuation τ sig (Elt F) := fun b => m (d, b)
def afterKernel (d : Dev nD) : Valuation τ sig (Elt F) := Function.update ((opFlat (F := F)).result (atLaunch m d)) out' (gathered m d)

omit [FloatOps F] in
/-- The TensorCore's unscoped buffers are those five. -/
theorem unscoped_held (d : Dev nD) : (unscopedBufs d (fun b => m ((SparseCore.T d).loc b)) : sProp 𝕄) = held (T d) arrays (atLaunch m d) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton, held_arrays]
  rfl

omit [FloatOps F] in
/-- The flattening writes the flattened table and nothing else. -/
theorem flat_tab (d : Dev nD) : (opFlat (F := F)).result (atLaunch m d) tab' = flat m d := by
  refine (StableHlo.reshape_result ..).trans ?_
  rfl
omit [FloatOps F] in
theorem flat_other (d : Dev nD) (b : DevRef τ sig) (hb : b ∉ ({tab'} : Finset (DevRef τ sig))) :
    (opFlat (F := F)).result (atLaunch m d) b = m (d, b) :=
  ((opFlat (F := F)).result_of_not_mem (atLaunch m d) hb).trans rfl

omit [FloatOps F] in
/-- The arrays after the flattening. -/
theorem held_flat (d : Dev nD) :
    (held (T d) arrays ((opFlat (F := F)).result (atLaunch m d)) : sProp 𝕄)
      = iprop((embLoc d ↦{fullShare} m (embLoc d)) ∗ (idxLoc d ↦{fullShare} m (idxLoc d)) ∗ (tabLoc d ↦{fullShare} flat m d)
          ∗ (outLoc d ↦{fullShare} m (outLoc d)) ∗ resLoc d ↦{fullShare} m (resLoc d)) := by
  rw [held_arrays, flat_tab, flat_other m d emb' (by decide), flat_other m d idx' (by decide), flat_other m d out' (by decide),
    flat_other m d res' (by decide)]

omit [FloatOps F] in
theorem afterKernel_out (d : Dev nD) : afterKernel m d out' = gathered m d := Function.update_self _ _ _
omit [FloatOps F] in
theorem afterKernel_tab (d : Dev nD) : afterKernel m d tab' = flat m d :=
  (Function.update_of_ne (show tab' ≠ out' by decide) _ _).trans (flat_tab m d)
omit [FloatOps F] in
theorem afterKernel_other (d : Dev nD) (b : DevRef τ sig) (hb : b ∉ ({tab'} : Finset (DevRef τ sig))) (hb' : b ≠ out') :
    afterKernel m d b = m (d, b) := (Function.update_of_ne hb' _ _).trans (flat_other m d b hb)

omit [FloatOps F] in
/-- The arrays after the kernel. -/
theorem held_kernel (d : Dev nD) :
    (held (T d) arrays (afterKernel m d) : sProp 𝕄)
      = iprop((embLoc d ↦{fullShare} m (embLoc d)) ∗ (idxLoc d ↦{fullShare} m (idxLoc d)) ∗ (tabLoc d ↦{fullShare} flat m d)
          ∗ (outLoc d ↦{fullShare} gathered m d) ∗ resLoc d ↦{fullShare} m (resLoc d)) := by
  rw [held_arrays, afterKernel_out, afterKernel_tab, afterKernel_other m d emb' (by decide) (by decide),
    afterKernel_other m d idx' (by decide) (by decide), afterKernel_other m d res' (by decide) (by decide)]

omit [FloatOps F] in
/-- The arrays at the end: the first two as they were, the result at `result`. -/
theorem held_end (d : Dev nD) :
    (held (T d) arrays ((opRes (F := F)).result (afterKernel m d)) : sProp 𝕄)
      = iprop((embLoc d ↦{fullShare} m (embLoc d)) ∗ (idxLoc d ↦{fullShare} m (idxLoc d))
          ∗ (tabLoc d ↦{fullShare} (opRes (F := F)).result (afterKernel m d) tab')
          ∗ (outLoc d ↦{fullShare} (opRes (F := F)).result (afterKernel m d) out') ∗ resLoc d ↦{fullShare} result m d) := by
  have hr : (opRes (F := F)).result (afterKernel m d) res' = result m d := by
    refine (StableHlo.reshape_result ..).trans ?_
    rw [show afterKernel m d (Proc.devRef .tc main_v1) = gathered m d from afterKernel_out m d]
    rfl
  rw [held_arrays, hr, (opRes (F := F)).result_of_not_mem (afterKernel m d) (b := emb') (show emb' ∉ ({res'} : Finset (DevRef τ sig)) by decide),
    (opRes (F := F)).result_of_not_mem (afterKernel m d) (b := idx') (show idx' ∉ ({res'} : Finset (DevRef τ sig)) by decide),
    afterKernel_other m d emb' (by decide) (by decide), afterKernel_other m d idx' (by decide) (by decide)]

/-- What the call takes and gives back: the indices, the flattened table and the output, whole. -/
theorem call_takes (d : Dev nD) : (bigSep Finset.univ fun c : Fin ((K (F := F)).nCore 0) => (P m).st 0 d c)
    = iprop((idxLoc d ↦{fullShare} m (idxLoc d)) ∗ (tabLoc d ↦{fullShare} flat m d) ∗ outLoc d ↦{fullShare} m (outLoc d)) :=
  (taskRes_all m d (m (outLoc d))).symm
theorem call_gives (d : Dev nD) : (bigSep Finset.univ fun c : Fin ((K (F := F)).nCore 0) => (P m).dn 0 d c)
    = iprop((idxLoc d ↦{fullShare} m (idxLoc d)) ∗ (tabLoc d ↦{fullShare} flat m d) ∗ outLoc d ↦{fullShare} gathered m d) :=
  (taskRes_all m d (gathered m d)).symm

/-- What the program's end holds: the table and the indices as they were, the result. -/
abbrev FIN (d : Dev nD) : sProp 𝕄 :=
  iprop((embLoc d ↦{fullShare} m (embLoc d)) ∗ (idxLoc d ↦{fullShare} m (idxLoc d)) ∗ resLoc d ↦{fullShare} result m d)

/-- The program on a device's TensorCore: the flattening, the call, the reshape. -/
theorem program (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := arrays)
    (show ({emb', tab'} : Finset (DevRef τ sig)) ⊆ arrays by decide) (V := atLaunch m d)) $$ [Hb Hheld]
  · isplitl [Hb] <;> iassumption
  iintro ⟨Hb, Hheld⟩
  rw [wp_ret]; imodintro
  ihave Hh := (Entails.of_eq (held_flat (F := F) m d)) $$ Hheld
  icases Hh with ⟨He, Hi, Ht, Ho, Hr⟩
  iapply ((K (F := F)).wp_run (D (F := F)) 𝒱 (EH := EH) (P := P m) κ d 0) $$ [Hst He Hi Ht Ho Hr Hb Hts]
  isplitr; · iexact Hctx
  isplitl [Hst]; · iexact Hst
  isplitl [Hi Ht Ho]
  · rw [call_takes]
    isplitl [Hi]; · iexact Hi
    isplitl [Ht]; · iexact Ht
    iexact Ho
  iintro ⟨Hst, Hdn⟩
  ihave Hdn' := (Entails.of_eq (call_gives m d)) $$ Hdn
  icases Hdn' with ⟨Hi, Ht, Ho⟩
  iapply (wp_hlo_within 𝒱 (SparseCore.T d) none Set.univ (op := opRes) (S := arrays)
    (show ({out', res'} : Finset (DevRef τ sig)) ⊆ arrays by decide) (V := afterKernel m d)) $$ [Hb He Hi Ht Ho Hr]
  · isplitl [Hb]; · iexact Hb
    rw [held_kernel]
    isplitl [He]; · iexact He
    isplitl [Hi]; · iexact Hi
    isplitl [Ht]; · iexact Ht
    isplitl [Ho]; · iexact Ho
    iexact Hr
  iintro ⟨Hb, Hheld⟩
  ihave Hh := (Entails.of_eq (held_end (F := F) m d)) $$ Hheld
  icases Hh with ⟨He, Hi, -, -, Hr⟩
  rw [wp_ret]; imodintro; imodintro
  isplitl [Hst]; · iexact Hst
  isplitr [Hb Hts]
  · isplitl [He]; · iexact He
    isplitl [Hi]; · iexact Hi
    iexact Hr
  isplitl [Hb] <;> iassumption

/-- What is read of a device's final memory. -/
def Final (d : Dev nD) (s : MemSt nD τ sig (Elt F)) : Prop :=
  s.mem (embLoc d) = m (embLoc d) ∧ s.mem (idxLoc d) = m (idxLoc d) ∧ s.mem (resLoc d) = result m d

omit [FloatOps F] in
/-- An array held whole at `f` is at `f` in the memory. -/
theorem read_whole {ℓ : Loc nD τ sig} {f : Buf (Elt F) ℓ} {s' : Phys nD τ sig (Elt F)} {R : sProp 𝕄} :
    iprop((ℓ ↦{fullShare} f) ∗ R ∗ SI s') ⊢ (iprop(⌜s'.mem.mem ℓ = f⌝ ∗ R ∗ SI s') : sProp 𝕄) := by
  iintro ⟨H, HR, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  isplitl [HR] <;> iassumption

set_option maxRecDepth 16384 in
omit [FloatOps F] in
theorem final_of (d : Dev nD) (s' : Phys nD τ sig (Elt F)) : iprop(FIN m d ∗ SI s') ⊢ (⌜Final m d s'.mem⌝ : sProp 𝕄) := by
  iintro ⟨⟨He, Hi, Hr⟩, HSI⟩
  ihave H := (read_whole (F := F) (ℓ := embLoc d) (f := m (embLoc d)) (s' := s') (R := iprop(emp))) $$ [He HSI]
  · isplitl [He]; · iexact He
    isplitr; · iempintro
    iexact HSI
  icases H with ⟨%h1, -, HSI⟩
  ihave H := (read_whole (F := F) (ℓ := idxLoc d) (f := m (idxLoc d)) (s' := s') (R := iprop(emp))) $$ [Hi HSI]
  · isplitl [Hi]; · iexact Hi
    isplitr; · iempintro
    iexact HSI
  icases H with ⟨%h2, -, HSI⟩
  ihave H := (read_whole (F := F) (ℓ := resLoc d) (f := result m d) (s' := s') (R := iprop(emp))) $$ [Hr HSI]
  · isplitl [Hr]; · iexact Hr
    isplitr; · iempintro
    iexact HSI
  icases H with ⟨%h3, -, -⟩
  ipureintro; exact ⟨h1, h2, h3⟩

/-! ## The run and the claims -/

/-- From any memory whose indices are in range every execution of the program ends, each device's memory as `Final`
    says and every counter at zero. -/
theorem run_main [∀ e, Nonempty (Elt F e)] (hpre : InRange m) :
    θ_run (Cert.KernelIdeal.defs (F := F)) (Cert.KernelIdeal.threads (F := F)) ⟨m, fun _ => 0, ρ⟩
      (fun r => (∀ c : Dev nD, Final m c r.2) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tasks m hpre)
    (fun q _ => match q with | 0 => SparseCore.Cfg.VecSplit.of_plain (deal m))
    m ρ main (fun _ => iprop(emp)) (FIN m) (u₀ (F := F)) (sep_elim_left.trans (launch_ghost m)) (program m ρ)
    (fun d s' => Final m d s'.mem) (final_of m) (fun r => (∀ c : Dev nD, Final m c r.2) ∧ r.2.sem = fun _ => 0) (fun _ h hz => ⟨h, hz⟩)

/-- The claims' precondition puts every index below 200. -/
theorem inRange_of_pre (h : ∀ c : Dev nD, Cert.Pre_in_range.fn (F := F) (m (embLoc c)) (m (idxLoc c)) = fun _ => 1#1) : InRange m :=
  fun d r => Picked.index_lt _ _ (h d) (at1 r)

/-- Under the precondition the result is the picked rows. -/
theorem result_eq (hpre : InRange m) (d : Dev nD) : result m d = Picked.pick (m (embLoc d)) (m (idxLoc d)) := by
  refine Picked.pick_of_flat (m (embLoc d)) (m (idxLoc d)) _ _ (rowOf m d) (hpre d) fun r => ?_
  have hw := hpre d r
  show (r.val * 200 + (idxWord m d r).toNat) % 819200 = _
  exact Nat.mod_eq_of_lt (by omega)

end Cert.Proof.OnKernelIdeal

end
-- ==== Proof.RefValue.lean ====
/-
  The reference: what it computes is `Picked.pick` when every index is in range, and its own frame. It wraps negative
  indices, tests the wrapped ones against the range, gathers with them, and puts a NaN where the test fails; on indices in
  range the wrapping does nothing and the test holds throughout.
-/
module

public import proofs.«01_k».proof.Defs
public import proofs.«01_k».proof.Proof.Gen.ReferenceIdeal
public import proofs.«01_k».proof.Proof.Gen.ReferenceIdeal.Run
public import proofs.«01_k».proof.Proof.Gen.Pre_in_range
public import proofs.«01_k».proof.Proof.Picked
public import Idealize.ShloMosaic.Lib.Quiescent

@[expose] public section

noncomputable section

namespace Cert.Proof.RefValue

open Cert.ReferenceIdeal Cert.ReferenceIdeal.Gen Idealize.ShloMosaic Idealize.SL.Sem

abbrev dims : GatherDims S4096x200x128 S4096x1x128x1 S4096x1x128 := gather_S4096x200x128_S4096x1x128x1_S4096x1x128_n_1_02_02_1_3_111

/-- The place of the start index that entry `j` of the gather reads. -/
abbrev startAt (j : S4096x1x128.Idx) : S4096x1x128x1.Idx := fun | 0 => j 0 | 1 => j 1 | 2 => j 2 | 3 => (0 : Fin 1)

/-- The gather's entry `(r, 0, c)` is the operand's `(r, k, c)`, `k` the start index there, when that is below 200. -/
theorem gather_apply {α : Type} (x : S4096x200x128.Idx → α) (v : IVec S4096x1x128x1 32) (j : S4096x1x128.Idx)
    (hv : (v (startAt j)).toNat < 200) :
    Host.gather dims x v j = x (Picked.cell (j 0) (Fin.ofNat 200 (v (startAt j)).toNat) (j 2)) := by
  unfold Host.gather
  congr 1
  funext a
  refine Fin.ext ?_
  show dims.start j v a + dims.batchCoord j a + dims.offCoord j a = _
  have hoff : dims.offCoord j a = 0 := GatherDims.offCoord_eq_zero _ _ _ (by
    rw [GatherDims.mem_sKept]
    show ¬ (a ∉ ([1] : List (Fin 3)) ∧ a ∉ ([0, 2] : List (Fin 3)))
    revert a; decide)
  rw [hoff, Nat.add_zero]
  match a with
  | 0 =>
    rw [GatherDims.start_batching _ _ _ _ (show (0 : Fin 3) ∈ ([0, 2] : List (Fin 3)) by decide), Nat.zero_add]
    refine (dif_pos (show (0 : Fin 3) ∈ ([0, 2] : List (Fin 3)) by decide)).trans ?_
    rfl
  | 1 =>
    rw [GatherDims.batchCoord_eq_zero _ _ _ (show (1 : Fin 3) ∉ ([0, 2] : List (Fin 3)) by decide), Nat.add_zero]
    refine (dif_pos (show (1 : Fin 3) ∈ ([1] : List (Fin 3)) by decide)).trans ?_
    have hs : dims.siIdx j ⟨List.idxOf (1 : Fin 3) ([1] : List (Fin 3)), List.idxOf_lt_length_iff.2 (by decide)⟩ = startAt j := by
      funext b; refine Fin.ext ?_
      match b with
      | 0 => rfl
      | 1 => rfl
      | 2 => rfl
      | 3 => rfl
    refine (congrArg (fun i => min (v i).toInt.toNat (200 - 1)) hs).trans ?_
    show min (v (startAt j)).toInt.toNat (200 - 1) = (v (startAt j)).toNat % 200
    rw [BitVec.toInt_eq_toNat_of_lt (by omega), Int.toNat_natCast, Nat.mod_eq_of_lt hv]
    omega
  | 2 =>
    rw [GatherDims.start_batching _ _ _ _ (show (2 : Fin 3) ∈ ([0, 2] : List (Fin 3)) by decide), Nat.zero_add]
    refine (dif_pos (show (2 : Fin 3) ∈ ([0, 2] : List (Fin 3)) by decide)).trans ?_
    rfl

/-- A word below 200 is not negative, so the wrapping leaves it, and it passes the range test. -/
theorem wrap_id (v : BitVec 32) (hv : v.toNat < 200) : Scalar.select (IntOp.cmpi .slt v 0#32) (IntOp.addi v 200#32) v = v := by
  have h : IntOp.cmpi .slt v 0#32 = 0#1 := by
    have : v.slt 0#32 = false := by
      rw [BitVec.slt_eq_decide, decide_eq_false_iff_not, BitVec.toInt_eq_toNat_of_lt (by omega)]
      simp
    simp only [IntOp.cmpi, this]; rfl
  rw [h]; rfl
theorem test_one (v : BitVec 32) (hv : v.toNat < 200) : IntOp.andi (IntOp.cmpi .sge v 0#32) (IntOp.cmpi .sle v 199#32) = 1#1 := by
  have h0 : (0#32).sle v = true := by
    rw [BitVec.sle_eq_decide, decide_eq_true_eq, BitVec.toInt_eq_toNat_of_lt (x := v) (by omega)]; simp
  have h1 : v.sle 199#32 = true := by
    rw [BitVec.sle_eq_decide, decide_eq_true_eq, BitVec.toInt_eq_toNat_of_lt (x := v) (by omega)]
    show (v.toNat : ℤ) ≤ 199
    omega
  simp only [IntOp.cmpi, h0, h1]; decide

variable {F : FTy → Type} [FloatOps F]

/-- The index array spread over the 128 columns. -/
abbrev spread (w : IVec S4096 32) : IVec S4096x1x128 32 :=
  broadcastInDim S4096x1x128 ![0, 1, 2] bcast_S4096x1x1_S4096x1x128_0_1_2 (broadcastInDim S4096x1x1 ![0] bcast_S4096_S4096x1x1_0 w)

/-- The start indices the reference gathers with: the spread indices, a negative one wrapped. -/
def starts (w : IVec S4096 32) : IVec S4096x1x128x1 32 :=
  shapeCast _ (select (cmpi .slt (spread w) (broadcastInDim S4096x1x128 ![] bcast_S_S4096x1x128 (constantI S_ 32 0#32)))
    (addi (spread w) (broadcastInDim S4096x1x128 ![] bcast_S_S4096x1x128 (constantI S_ 32 200#32))) (spread w)) shapeCasts_S4096x1x128_S4096x1x128x1

theorem spread_apply (w : IVec S4096 32) (j : S4096x1x128.Idx) : spread w j = w (Picked.place (j 0)) := by
  refine congrArg w (funext fun a => ?_)
  match a with
  | 0 => rfl

/-- On indices in range the start index of row `r` is index `r`. -/
theorem starts_apply (w : IVec S4096 32) (hw : ∀ i, (w i).toNat < 200) (k : S4096x1x128x1.Idx) : starts w k = w (Picked.place (k 0)) := by
  have h3 : (k 3).val < 1 := (k 3).isLt
  unfold starts
  refine (shapeCast_apply (s := S4096x1x128) _ _ k (fun | 0 => k 0 | 1 => k 1 | 2 => k 2) ?_).trans ?_
  · rw [Shape.rowMajor_val_three, Shape.rowMajor_val_four]
    show ((k 0).val * 1 + (k 1).val) * 128 + (k 2).val = (((k 0).val * 1 + (k 1).val) * 128 + (k 2).val) * 1 + (k 3).val
    omega
  · refine Eq.trans ?_ (wrap_id _ (hw (Picked.place (k 0))))
    show Scalar.select (IntOp.cmpi .slt (spread w _) 0#32) (IntOp.addi (spread w _) 200#32) (spread w _) = _
    rw [spread_apply]

/-- From any memory whose indices are below 200 the reference ends with `pick` in its result, its arguments unchanged. -/
theorem run_pick (m : (ℓ : Loc nD τ sig) → Buf (Elt F) ℓ) (ρ : Dev nD → PrngReg)
    (hpre : ∀ (c : Dev nD) (i : Picked.Indices.Idx), BitVec.toNat (w := 32) (m ((c.tc : Thread nD τ).loc main_arg1) i) < 200) :
    θ_run defs (onTc (τ := τ) (main (F := F))) ⟨m, fun _ => 0, ρ⟩ fun r => ∀ c : Dev nD,
      r.2.mem ((c.tc : Thread nD τ).loc main_v2)
          = Picked.pick (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.ReferenceIdeal.Value.run m ρ)
  generalize m ((c.tc : Thread nD τ).loc main_arg0) = x
  have hw := hpre c
  generalize m ((c.tc : Thread nD τ).loc main_arg1) = w at hw ⊢
  funext j
  have hs := starts_apply w hw
  show Scalar.select (Host.reduce IntOp.andi (fun k : S4096x1x128x1.Idx => IntOp.andi (IntOp.cmpi .sge (starts w k) 0#32) (IntOp.cmpi .sle (starts w k) 199#32))
    (constantI S_ 1 1#1) reducesTo_S4096x1x128x1_S4096x1x128_d3 h_S_ j) (Host.gather dims x (starts w) j) _ = _
  rw [Host.reduce_andi_one _ _ _ _ j rfl fun k => by rw [hs]; exact test_one _ (hw _)]
  refine (gather_apply x (starts w) j (by rw [hs]; exact hw _)).trans ?_
  rw [hs]
  rfl

/-- The reference's frame, which needs no precondition. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (Cert.ReferenceIdeal.Value.run m ρ)

end Cert.Proof.RefValue

end
-- ==== Proof.lean ====
/-
  The proof of every claim of the certificate (proof/Defs.lean). The kernel's run, with the value it leaves, is
  Proof/KernelRun.lean over one task's run in Proof/KernelTask.lean; the KernelIdeal modules are the same for the
  idealized program; the reference is Proof/RefValue.lean. Kernel and reference meet in `Picked.pick`.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.KernelRun
public import proofs.«01_k».proof.Proof.KernelIdealRun
public import proofs.«01_k».proof.Proof.RefValue
public import Idealize.ShloMosaic.Adequacy
public import Idealize.ShloMosaic.Init

@[expose] public section

noncomputable section

namespace Cert.Proof

open Idealize.ShloMosaic Idealize.SL.Sem

/-- The kernel ends with its arguments unchanged and every counter at zero. -/
theorem frame_Kernel : Cert.quiescent_Kernel := fun m g hpre =>
  (θ_run _ _ _).mono (fun _ h => ⟨fun c => ⟨(h.1 c).1, (h.1 c).2.1⟩, h.2⟩) (OnKernel.run_main (F := Bits) m g (OnKernel.inRange_of_pre m hpre))

/-- So does the idealized kernel. -/
theorem frame_KernelIdeal : Cert.quiescent_KernelIdeal := fun m g hpre =>
  (θ_run _ _ _).mono (fun _ h => ⟨fun c => ⟨(h.1 c).1, (h.1 c).2.1⟩, h.2⟩)
    (OnKernelIdeal.run_main (F := Ideal) m g (OnKernelIdeal.inRange_of_pre m hpre))

/-- The idealized kernel and the reference, on the same table and indices, end with the same result. -/
theorem same_result : Cert.algebraic_KernelIdeal_ReferenceIdeal := fun m g m' g' hpre hargs => by
  have hin := OnKernelIdeal.inRange_of_pre (F := Ideal) m hpre
  refine ⟨fun c => Picked.pick (m (OnKernelIdeal.embLoc c)) (m (OnKernelIdeal.idxLoc c)), ?_, ?_⟩
  · exact (θ_run _ _ _).mono (fun _ h c => ⟨(h.1 c).2.2.trans (OnKernelIdeal.result_eq m hin c), (h.1 c).1, (h.1 c).2.1⟩)
      (OnKernelIdeal.run_main (F := Ideal) m g hin)
  · refine (θ_run _ _ _).mono (fun r h c => ⟨(h c).1.trans ?_, (h c).2⟩) (RefValue.run_pick (F := Ideal) m' g' fun c i => ?_)
    · rw [(hargs c).2]; exact Picked.index_lt _ _ (hpre c) i
    · rw [(hargs c).1, (hargs c).2]

theorem claim : Cert.Claim :=
  ⟨Cert.Kernel.Gen.facts, Cert.KernelIdeal.Gen.facts, Cert.ReferenceIdeal.Gen.facts, Cert.Pre_in_range.Gen.facts,
    frame_Kernel, frame_KernelIdeal, fun m g _ => RefValue.frame m g, fun m g _ => RefValue.frame m g, trivial, same_result⟩

end Cert.Proof

end
